-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn_inputs [hPre_drawn_inputs : Cert.Pre_drawn_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_inputs [hPre_drawn_inputs : Cert.Pre_drawn_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_drawn_inputs [hKernelIdeal : Cert.KernelIdeal.Facts] [hPre_drawn_inputs : Cert.Pre_drawn_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_drawn_inputs [hReferenceIdeal : Cert.ReferenceIdeal.Facts] [hPre_drawn_inputs : Cert.Pre_drawn_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale2" .f32 0x3E38AA3B#32 (((Real.log 2)⁻¹ * (Real.sqrt 64)⁻¹ : ℝ) : EReal)

def algebraic_KernelIdeal_ReferenceIdeal_pre_drawn_inputs [hKernelIdeal : Cert.KernelIdeal.Facts] [hReferenceIdeal : Cert.ReferenceIdeal.Facts] [hPre_drawn_inputs : Cert.Pre_drawn_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_drawn_inputs : Cert.Pre_drawn_inputs.Facts),
    quiescent_Kernel (hKernel := hKernel)
    ∧ quiescent_KernelIdeal (hKernelIdeal := hKernelIdeal)
    ∧ quiescent_KernelIdeal_pre_drawn_inputs (hKernelIdeal := hKernelIdeal) (hPre_drawn_inputs := hPre_drawn_inputs)
    ∧ quiescent_ReferenceIdeal (hReferenceIdeal := hReferenceIdeal)
    ∧ quiescent_ReferenceIdeal_pre_drawn_inputs (hReferenceIdeal := hReferenceIdeal) (hPre_drawn_inputs := hPre_drawn_inputs)
    ∧ preserves_Kernel_KernelIdeal
    ∧ algebraic_KernelIdeal_ReferenceIdeal_pre_drawn_inputs (hKernelIdeal := hKernelIdeal) (hReferenceIdeal := hReferenceIdeal) (hPre_drawn_inputs := hPre_drawn_inputs)
-- ==== Pre_drawn_inputs.lean ====
abbrev S1x12x2048x64 : Shape := ⟨4, ![1, 12, 2048, 64]⟩
abbrev S2048x2 : Shape := ⟨2, ![2048, 2]⟩
abbrev S2048 : Shape := ⟨1, ![2048]⟩
abbrev S2047 : Shape := ⟨1, ![2047]⟩
abbrev S_ : Shape := ⟨0, ![]⟩

class Facts : Prop where
  slices_S2048_S2047_0 : S2048.Slices ![0] S2047
  slices_S2048_S2047_1 : S2048.Slices ![1] S2047
  reducesTo_S2047_S_d0 : S2047.ReducesTo [0] S_
  h_S_ : 0 < S_.numel
  bcast_S_S2048 : S_.BroadcastsInDim S2048 (![] : Fin 0 → Fin S2048.rank)
  reducesTo_S2048_S_d0 : S2048.ReducesTo [0] S_
  bcast_S_S2048x2 : S_.BroadcastsInDim S2048x2 (![] : Fin 0 → Fin S2048x2.rank)
  reducesTo_S2048x2_S_d0_1 : S2048x2.ReducesTo [0, 1] S_
  bcast_S_S1x12x2048x64 : S_.BroadcastsInDim S1x12x2048x64 (![] : Fin 0 → Fin S1x12x2048x64.rank)
  reducesTo_S1x12x2048x64_S_d0_1_2_3 : S1x12x2048x64.ReducesTo [0, 1, 2, 3] S_

variable [Facts]

def fn_part1 {F : FTy → Type} [FloatOps F] (main_arg0 : FVec F S1x12x2048x64 .f32) (main_arg1 : FVec F S1x12x2048x64 .f32) (main_arg3 : FVec F S2048x2 .f32) (main_v15 : IVec S_ 1) (main_cst_5 : FVec F S_ .f32) : IVec S_ 1 :=
  let main_v16 : FVec F S2048x2 .f32 := broadcastInDim S2048x2 ![] bcast_S_S2048x2 main_cst_5
  let main_v17 : IVec S2048x2 1 := cmpf .ole main_arg3 main_v16
  let main_c_6 : IVec S_ 1 := constantI S_ 1 1#1
  let main_v18 : IVec S_ 1 := (fun x v => Host.reduce IntOp.andi x v reducesTo_S2048x2_S_d0_1 h_S_) main_v17 main_c_6
  let main_v19 : IVec S_ 1 := andi main_v15 main_v18
  let main_v20 : FVec F S1x12x2048x64 .f32 := Host.absf main_arg0
  let main_cst_7 : FVec F S_ .f32 := constant S_ .f32 0x7F800000#32
  let main_v21 : FVec F S1x12x2048x64 .f32 := broadcastInDim S1x12x2048x64 ![] bcast_S_S1x12x2048x64 main_cst_7
  let main_v22 : IVec S1x12x2048x64 1 := cmpf .olt main_v20 main_v21
  let main_c_8 : IVec S_ 1 := constantI S_ 1 1#1
  let main_v23 : IVec S_ 1 := (fun x v => Host.reduce IntOp.andi x v reducesTo_S1x12x2048x64_S_d0_1_2_3 h_S_) main_v22 main_c_8
  let main_v24 : IVec S_ 1 := andi main_v19 main_v23
  let main_v25 : FVec F S1x12x2048x64 .f32 := Host.absf main_arg1
  let main_cst_9 : FVec F S_ .f32 := constant S_ .f32 0x7F800000#32
  let main_v26 : FVec F S1x12x2048x64 .f32 := broadcastInDim S1x12x2048x64 ![] bcast_S_S1x12x2048x64 main_cst_9
  let main_v27 : IVec S1x12x2048x64 1 := cmpf .olt main_v25 main_v26
  let main_c_10 : IVec S_ 1 := constantI S_ 1 1#1
  let main_v28 : IVec S_ 1 := (fun x v => Host.reduce IntOp.andi x v reducesTo_S1x12x2048x64_S_d0_1_2_3 h_S_) main_v27 main_c_10
  let main_v29 : IVec S_ 1 := andi main_v24 main_v28
  main_v29

def fn {F : FTy → Type} [FloatOps F] (main_arg0 : FVec F S1x12x2048x64 .f32) (main_arg1 : FVec F S1x12x2048x64 .f32) (main_arg2 : FVec F S1x12x2048x64 .f32) (main_arg3 : FVec F S2048x2 .f32) (main_arg4 : IVec S2048 32) (main_arg5 : IVec S2048 1) : IVec S_ 1 :=
  let main_v0 : IVec S2047 32 := (extractStridedSlice S2047 ![0] · slices_S2048_S2047_0) main_arg4
  let main_v1 : IVec S2047 32 := (extractStridedSlice S2047 ![1] · slices_S2048_S2047_1) main_arg4
  let main_v2 : IVec S2047 1 := cmpi .sle main_v0 main_v1
  let main_c : IVec S_ 1 := constantI S_ 1 1#1
  let main_v3 : IVec S_ 1 := (fun x v => Host.reduce IntOp.andi x v reducesTo_S2047_S_d0 h_S_) main_v2 main_c
  let main_c_0 : IVec S_ 32 := constantI S_ 32 0#32
  let main_v4 : IVec S2048 32 := broadcastInDim S2048 ![] bcast_S_S2048 main_c_0
  let main_v5 : IVec S2048 1 := cmpi .sge main_arg4 main_v4
  let main_c_1 : IVec S_ 1 := constantI S_ 1 1#1
  let main_v6 : IVec S_ 1 := (fun x v => Host.reduce IntOp.andi x v reducesTo_S2048_S_d0 h_S_) main_v5 main_c_1
  let main_v7 : IVec S_ 1 := andi main_v3 main_v6
  let main_c_2 : IVec S_ 32 := constantI S_ 32 3#32
  let main_v8 : IVec S2048 32 := broadcastInDim S2048 ![] bcast_S_S2048 main_c_2
  let main_v9 : IVec S2048 1 := cmpi .sle main_arg4 main_v8
  let main_c_3 : IVec S_ 1 := constantI S_ 1 1#1
  let main_v10 : IVec S_ 1 := (fun x v => Host.reduce IntOp.andi x v reducesTo_S2048_S_d0 h_S_) main_v9 main_c_3
  let main_v11 : IVec S_ 1 := andi main_v7 main_v10
  let main_cst : FVec F S_ .f32 := constant S_ .f32 0x00000000#32
  let main_v12 : FVec F S2048x2 .f32 := broadcastInDim S2048x2 ![] bcast_S_S2048x2 main_cst
  let main_v13 : IVec S2048x2 1 := cmpf .oge main_arg3 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v11 main_v14
  let main_cst_5 : FVec F S_ .f32 := constant S_ .f32 0x3F800000#32
  fn_part1 (F := F) main_arg0 main_arg1 main_arg3 main_v15 main_cst_5
-- ==== Kernel.lean ====
abbrev S1x12x2048x64 : Shape := ⟨4, ![1, 12, 2048, 64]⟩
abbrev S2048x2 : Shape := ⟨2, ![2048, 2]⟩
abbrev S2048 : Shape := ⟨1, ![2048]⟩
abbrev S12x2048x64 : Shape := ⟨3, ![12, 2048, 64]⟩
abbrev S_ : Shape := ⟨0, ![]⟩
abbrev S12x2048x1 : Shape := ⟨3, ![12, 2048, 1]⟩
abbrev S12x2048x65 : Shape := ⟨3, ![12, 2048, 65]⟩
abbrev S2048x1 : Shape := ⟨2, ![2048, 1]⟩
abbrev S1x2048 : Shape := ⟨2, ![1, 2048]⟩
abbrev S1x2048x64 : Shape := ⟨3, ![1, 2048, 64]⟩
abbrev S1x2048x65 : Shape := ⟨3, ![1, 2048, 65]⟩
abbrev S2048x2048 : Shape := ⟨2, ![2048, 2048]⟩
abbrev S1x1x2048 : Shape := ⟨3, ![1, 1, 2048]⟩
abbrev S1 : Shape := ⟨1, ![1]⟩
abbrev S1x1x1 : Shape := ⟨3, ![1, 1, 1]⟩
abbrev S2048x64 : Shape := ⟨2, ![2048, 64]⟩
abbrev S2048x65 : Shape := ⟨2, ![2048, 65]⟩

abbrev nBuf : Space → Nat
  | .hbm => 19
  | .vmem => 12
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S2048x2, .f32⟩
  | .hbm, ⟨4, _⟩ => ⟨S2048, .i32⟩
  | .hbm, ⟨5, _⟩ => ⟨S2048, .i1⟩
  | .hbm, ⟨6, _⟩ => ⟨S12x2048x64, .f32⟩
  | .hbm, ⟨7, _⟩ => ⟨S12x2048x64, .f32⟩
  | .hbm, ⟨8, _⟩ => ⟨S12x2048x64, .f32⟩
  | .hbm, ⟨9, _⟩ => ⟨S_, .f32⟩
  | .hbm, ⟨10, _⟩ => ⟨S12x2048x1, .f32⟩
  | .hbm, ⟨11, _⟩ => ⟨S12x2048x65, .f32⟩
  | .hbm, ⟨12, _⟩ => ⟨S12x2048x65, .bf16⟩
  | .hbm, ⟨13, _⟩ => ⟨S2048x1, .i32⟩
  | .hbm, ⟨14, _⟩ => ⟨S1x2048, .i32⟩
  | .hbm, ⟨15, _⟩ => ⟨S2048, .i32⟩
  | .hbm, ⟨16, _⟩ => ⟨S2048x1, .i32⟩
  | .hbm, ⟨17, _⟩ => ⟨S12x2048x64, .f32⟩
  | .hbm, ⟨18, _⟩ => ⟨S1x12x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x65, .bf16⟩
  | .local _ .vmem, ⟨5, _⟩ => ⟨S1x2048x65, .bf16⟩
  | .local _ .vmem, ⟨6, _⟩ => ⟨S2048x1, .i32⟩
  | .local _ .vmem, ⟨7, _⟩ => ⟨S1x2048, .i32⟩
  | .local _ .vmem, ⟨8, _⟩ => ⟨S2048x1, .i32⟩
  | .local _ .vmem, ⟨9, _⟩ => ⟨S1x2048x64, .f32⟩
  | .local _ .vmem, ⟨10, _⟩ => ⟨S1x2048x64, .f32⟩
  | .local _ .vmem, ⟨11, _⟩ => ⟨S2048x2048, .bf16⟩
  | _, _ => ⟨S1x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x65 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "mask" => some ⊥
  | "scale2" => some (((Real.log 2)⁻¹ * (Real.sqrt 64)⁻¹ : ℝ) : EReal)
  | _ => none
-- ==== ReferenceIdeal.lean ====
abbrev S1x12x2048x64 : Shape := ⟨4, ![1, 12, 2048, 64]⟩
abbrev S2048x2 : Shape := ⟨2, ![2048, 2]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x1x2 : Shape := ⟨3, ![2048, 1, 2]⟩
abbrev S1x2048x2 : Shape := ⟨3, ![1, 2048, 2]⟩
abbrev S2048x2048x2 : Shape := ⟨3, ![2048, 2048, 2]⟩
abbrev S_ : Shape := ⟨0, ![]⟩
abbrev S1x12x2048x2048 : Shape := ⟨4, ![1, 12, 2048, 2048]⟩
abbrev S1x1x2048x2048 : Shape := ⟨4, ![1, 1, 2048, 2048]⟩
abbrev S1x12x2048 : Shape := ⟨3, ![1, 12, 2048]⟩
abbrev S1x12x2048x1 : Shape := ⟨4, ![1, 12, 2048, 1]⟩

abbrev nBuf : Space → Nat
  | .hbm => 63
  | .vmem => 0
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S2048x2, .f32⟩
  | .hbm, ⟨4, _⟩ => ⟨S2048, .i32⟩
  | .hbm, ⟨5, _⟩ => ⟨S2048, .i1⟩
  | .hbm, ⟨6, _⟩ => ⟨S2048, .i32⟩
  | .hbm, ⟨7, _⟩ => ⟨S2048x1, .i32⟩
  | .hbm, ⟨8, _⟩ => ⟨S1x2048, .i32⟩
  | .hbm, ⟨9, _⟩ => ⟨S2048x2048, .i32⟩
  | .hbm, ⟨10, _⟩ => ⟨S2048x2048, .i32⟩
  | .hbm, ⟨11, _⟩ => ⟨S2048x2048, .i1⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S2048x1, .i1⟩
  | .hbm, ⟨16, _⟩ => ⟨S2048x1, .i1⟩
  | .hbm, ⟨17, _⟩ => ⟨S2048x1, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S2048x2048, .i1⟩
  | .hbm, ⟨23, _⟩ => ⟨S2048x2048, .i1⟩
  | .hbm, ⟨24, _⟩ => ⟨S2048x1x2, .f32⟩
  | .hbm, ⟨25, _⟩ => ⟨S1x2048x2, .f32⟩
  | .hbm, ⟨26, _⟩ => ⟨S2048x2048x2, .f32⟩
  | .hbm, ⟨27, _⟩ => ⟨S2048x2048x2, .f32⟩
  | .hbm, ⟨28, _⟩ => ⟨S2048x2048x2, .f32⟩
  | .hbm, ⟨29, _⟩ => ⟨S2048x2048x2, .f32⟩
  | .hbm, ⟨30, _⟩ => ⟨S_, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .i1⟩
  | .hbm, ⟨35, _⟩ => ⟨S2048x2048, .i1⟩
  | .hbm, ⟨36, _⟩ => ⟨S2048x2048, .i1⟩
  | .hbm, ⟨37, _⟩ => ⟨S2048x2048, .i1⟩
  | .hbm, ⟨38, _⟩ => ⟨S1x12x2048x2048, .f32⟩
  | .hbm, ⟨39, _⟩ => ⟨S_, .f32⟩
  | .hbm, ⟨40, _⟩ => ⟨S1x12x2048x2048, .f32⟩
  | .hbm, ⟨41, _⟩ => ⟨S1x12x2048x2048, .f32⟩
  | .hbm, ⟨42, _⟩ => ⟨S1x1x2048x2048, .i1⟩
  | .hbm, ⟨43, _⟩ => ⟨S_, .f32⟩
  | .hbm, ⟨44, _⟩ => ⟨S_, .f32⟩
  | .hbm, ⟨45, _⟩ => ⟨S1x12x2048x2048, .i1⟩
  | .hbm, ⟨46, _⟩ => ⟨S1x12x2048x2048, .f32⟩
  | .hbm, ⟨47, _⟩ => ⟨S1x12x2048x2048, .f32⟩
  | .hbm, ⟨48, _⟩ => ⟨S_, .f32⟩
  | .hbm, ⟨49, _⟩ => ⟨S1x12x2048, .f32⟩
  | .hbm, ⟨50, _⟩ => ⟨S_, .f32⟩
  | .hbm, ⟨51, _⟩ => ⟨S1x12x2048, .f32⟩
  | .hbm, ⟨52, _⟩ => ⟨S1x12x2048, .f32⟩
  | .hbm, ⟨53, _⟩ => ⟨S1x12x2048x1, .f32⟩
  | .hbm, ⟨54, _⟩ => ⟨S1x12x2048x2048, .f32⟩
  | .hbm, ⟨55, _⟩ => ⟨S1x12x2048x2048, .f32⟩
  | .hbm, ⟨56, _⟩ => ⟨S1x12x2048x2048, .f32⟩
  | .hbm, ⟨57, _⟩ => ⟨S_, .f32⟩
  | .hbm, ⟨58, _⟩ => ⟨S1x12x2048, .f32⟩
  | .hbm, ⟨59, _⟩ => ⟨S1x12x2048x1, .f32⟩
  | .hbm, ⟨60, _⟩ => ⟨S1x12x2048x2048, .f32⟩
  | .hbm, ⟨61, _⟩ => ⟨S1x12x2048x2048, .f32⟩
  | .hbm, ⟨62, _⟩ => ⟨S1x12x2048x64, .f32⟩
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Proof.Softmax.lean ====
/- One row of the attention, on the extended reals: the kernel's unnormalised exponentials in base two, divided once,
   are the reference's softmax weights. Nothing here mentions either program. -/
module

public import Idealize.ShloMosaic.PureOps.Ideal
public import Idealize.ShloMosaic.Lib.Pointwise

@[expose] public section

noncomputable section

namespace Cert.Math

open Idealize.ShloMosaic

/-- The real weight of an entry: the exponential of its score where it is visible, zero where it is not. -/
def weight {n : ℕ} (s : Fin n → ℝ) (vis : Fin n → Prop) [DecidablePred vis] (j : Fin n) : ℝ :=
  if vis j then Real.exp (s j) else 0

/-- No weight is negative. -/
theorem weight_nonneg {n : ℕ} (s : Fin n → ℝ) (vis : Fin n → Prop) [DecidablePred vis] (j : Fin n) :
    0 ≤ weight s vis j := by
  unfold weight; split_ifs
  · exact (Real.exp_pos _).le
  · exact le_rfl

/-- A row with a visible entry has positive total weight. -/
theorem weight_sum_pos {n : ℕ} (s : Fin n → ℝ) (vis : Fin n → Prop) [DecidablePred vis] (a : Fin n) (ha : vis a) :
    0 < ∑ j, weight s vis j :=
  Finset.sum_pos' (fun j _ => weight_nonneg s vis j) ⟨a, Finset.mem_univ _, by rw [weight, if_pos ha]; exact Real.exp_pos _⟩

/-- A finite sum of reals, read as an extended real, is the sum of the readings. -/
theorem coe_sum {ι : Type*} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- A nonnegative real factor moves into a finite sum of extended reals. -/
theorem sum_mul_coe {ι : Type*} (S : Finset ι) (f : ι → EReal) {r : ℝ} (hr : 0 ≤ r) :
    (∑ j ∈ S, f j) * (r : EReal) = ∑ j ∈ S, f j * (r : EReal) := by
  classical
  induction S using Finset.induction_on with
  | empty => simp
  | insert a S ha ih =>
    rw [Finset.sum_insert ha, Finset.sum_insert ha, ← ih, EReal.right_distrib_of_nonneg_of_ne_top]
    · exact_mod_cast hr
    · exact EReal.coe_ne_top r

/-- The kernel's entry: two to the score over `ln 2` plus a constant, or plus `-∞` where the entry is hidden. -/
theorem exp2_entry {n : ℕ} (s : Fin n → ℝ) (vis : Fin n → Prop) [DecidablePred vis] (b : ℝ) (j : Fin n) :
    Ideal.exp2 (((s j * (Real.log 2)⁻¹ : ℝ) : EReal) + if vis j then (b : EReal) else ⊥)
      = ((Real.rpow 2 b * weight s vis j : ℝ) : EReal) := by
  unfold weight
  split_ifs with h
  · rw [← EReal.coe_add, Ideal.exp2_coe]
    refine congrArg _ ?_
    have h2 : Real.log 2 ≠ 0 := (Real.log_pos (by norm_num)).ne'
    show (2 : ℝ) ^ (s j * (Real.log 2)⁻¹ + b) = (2 : ℝ) ^ b * Real.exp (s j)
    rw [Real.rpow_add (by norm_num), mul_comm, Real.rpow_def_of_pos (by norm_num : (0 : ℝ) < 2) (s j * _)]
    congr 2
    field_simp
  · rw [EReal.add_bot, Ideal.exp2_bot, mul_zero, EReal.coe_zero]

/-- A row's maximum over its visible scores is a real number when some entry is visible. -/
theorem max_real {n : ℕ} (s : Fin n → ℝ) (vis : Fin n → Prop) [DecidablePred vis] (a : Fin n) (ha : vis a) :
    ∃ μ : ℝ, max ⊥ (Finset.univ.fold max (⊥ : EReal) fun j => if vis j then (s j : EReal) else ⊥) = (μ : EReal) := by
  rw [max_eq_right bot_le]
  set f : Fin n → EReal := fun j => if vis j then (s j : EReal) else ⊥ with hf
  have hge : f a ≤ Finset.univ.fold max ⊥ f := (Finset.le_fold_max _).2 (Or.inr ⟨a, Finset.mem_univ _, le_rfl⟩)
  have hlt : Finset.univ.fold max ⊥ f < ⊤ := (Finset.fold_max_lt _).2 ⟨bot_lt_top, fun j _ => by
    rw [hf]; dsimp only; split_ifs
    · exact EReal.coe_lt_top _
    · exact bot_lt_top⟩
  have hfa : f a = (s a : EReal) := if_pos ha
  have hbot : Finset.univ.fold max ⊥ f ≠ ⊥ := fun h => by
    rw [h, hfa] at hge
    exact EReal.coe_ne_bot _ (le_bot_iff.1 hge)
  exact ⟨_, (EReal.coe_toReal hlt.ne hbot).symm⟩

/-- The reference's entry: the exponential of the masked score less the row's maximum. -/
theorem exp_entry {n : ℕ} (s : Fin n → ℝ) (vis : Fin n → Prop) [DecidablePred vis] (μ : ℝ) (j : Fin n) :
    Ideal.exp ((if vis j then (s j : EReal) else ⊥) - (μ : EReal)) = ((Real.exp (-μ) * weight s vis j : ℝ) : EReal) := by
  unfold weight
  split_ifs with h
  · rw [← EReal.coe_sub, Ideal.exp_coe, ← Real.exp_add]
    congr 2; ring
  · rw [EReal.bot_sub, Ideal.exp_bot, mul_zero, EReal.coe_zero]

/-- The two rows agree: the kernel's weighted sum divided by its sum of weights is the sum of the reference's softmax
    weights times the values, whatever extended reals the values are. -/
theorem row_eq {n : ℕ} (s : Fin n → ℝ) (vis : Fin n → Prop) [DecidablePred vis] (a : Fin n) (ha : vis a) (b : ℝ)
    (v : Fin n → EReal) :
    Ideal.div
        (∑ j, Ideal.exp2 (((s j * (Real.log 2)⁻¹ : ℝ) : EReal) + if vis j then (b : EReal) else ⊥) * v j)
        (∑ j, Ideal.exp2 (((s j * (Real.log 2)⁻¹ : ℝ) : EReal) + if vis j then (b : EReal) else ⊥) * 1)
      = ∑ j, Ideal.div
          (Ideal.exp ((if vis j then (s j : EReal) else ⊥)
            - max ⊥ (Finset.univ.fold max (⊥ : EReal) fun j => if vis j then (s j : EReal) else ⊥)))
          (∑ j, Ideal.exp ((if vis j then (s j : EReal) else ⊥)
            - max ⊥ (Finset.univ.fold max (⊥ : EReal) fun j => if vis j then (s j : EReal) else ⊥))) * v j := by
  obtain ⟨μ, hμ⟩ := max_real s vis a ha
  have hW := weight_sum_pos s vis a ha
  have h2 : (0 : ℝ) < Real.rpow 2 b := Real.rpow_pos_of_pos (by norm_num) b
  have he := Real.exp_pos (-μ)
  rw [hμ]
  simp only [exp2_entry, exp_entry, mul_one]
  rw [← coe_sum, ← coe_sum, ← Finset.mul_sum, ← Finset.mul_sum, Ideal.div_coe (mul_pos h2 hW).ne', sum_mul_coe _ _ (by positivity)]
  refine Finset.sum_congr rfl fun j _ => ?_
  rw [Ideal.div_coe (mul_pos he hW).ne', mul_right_comm, ← EReal.coe_mul, ← EReal.coe_mul]
  congr 2
  field_simp

end Cert.Math

end
-- ==== Proof.Mask.lean ====
/- Visibility. With spans sorted and in `0, …, 3`, the kernel's one comparison of the column with a threshold says what
   the reference's comparison of spans says. Nothing here mentions either program's buffers. -/
module

public import Idealize.ShloMosaic.PureOps.Ideal
public import Idealize.ShloMosaic.Lib.Affine
public import Idealize.ShloMosaic.Lib.Pointwise

@[expose] public section

noncomputable section

namespace Cert.Math

open Idealize.ShloMosaic

/-- A wrapping sum of `0`/`1` words is the number of ones, as a word. -/
theorem fold_bits {ι : Type*} [DecidableEq ι] (S : Finset ι) (p : ι → BitVec 1) :
    S.fold IntOp.addi (0#32) (fun x => BitVec.setWidth 32 (p x)) = BitVec.ofNat 32 (S.filter fun x => p x = 1#1).card := by
  induction S using Finset.induction_on with
  | empty => simp
  | insert a S ha ih =>
    rw [Finset.fold_insert ha, ih, Finset.filter_insert]
    rcases BitVec.eq_zero_or_eq_one (p a) with h | h
    · rw [h, if_neg (by decide)]
      simp [IntOp.addi]
    · rw [h, if_pos rfl, Finset.card_insert_of_notMem (fun hm => ha (Finset.mem_filter.1 hm).1)]
      show 1#32 + BitVec.ofNat 32 _ = _
      rw [← BitVec.ofNat_add, add_comm]

/-- In a sorted row, position `j` comes before the number of entries at most `c` exactly when entry `j` is at most `c`. -/
theorem lt_count_iff {n : ℕ} (f : Fin n → ℤ) (hf : ∀ i j, i ≤ j → f i ≤ f j) (c : ℤ) (j : Fin n) :
    (j : ℕ) < (Finset.univ.filter fun x => f x ≤ c).card ↔ f j ≤ c := by
  constructor
  · intro h
    by_contra hc
    have hsub : (Finset.univ.filter fun x => f x ≤ c) ⊆ Finset.Iio j := fun x hx => by
      rw [Finset.mem_Iio]
      by_contra hx'
      exact hc ((hf j x (not_lt.1 hx')).trans (Finset.mem_filter.1 hx).2)
    have := Finset.card_le_card hsub
    rw [Fin.card_Iio] at this
    omega
  · intro h
    have hsub : Finset.Iic j ⊆ (Finset.univ.filter fun x => f x ≤ c) := fun x hx =>
      Finset.mem_filter.2 ⟨Finset.mem_univ _, (hf x j (Finset.mem_Iic.1 hx)).trans h⟩
    have := Finset.card_le_card hsub
    rw [Fin.card_Iic] at this
    omega

/-- The kernel's number of entries at most `c`: a wrapping sum of comparison bits, read through a pair index. -/
def count (sp : Fin 2048 → BitVec 32) (c : BitVec 32) : BitVec 32 :=
  Finset.fold IntOp.addi (0#32) (fun x : Fin 1 × Fin 2048 => BitVec.setWidth 32 (IntOp.cmpi .sle (sp x.2) c)) Finset.univ

/-- Comparing a position with the count is comparing its entry with the bound. -/
theorem slt_count (sp : Fin 2048 → BitVec 32) (hs : ∀ i j, i ≤ j → (sp i).toInt ≤ (sp j).toInt) (c : BitVec 32) (j : Fin 2048) :
    IntOp.cmpi .slt (BitVec.ofNat 32 (j : ℕ)) (count sp c) = 1#1 ↔ (sp j).toInt ≤ c.toInt := by
  have hcard : (Finset.univ.filter fun x : Fin 1 × Fin 2048 => IntOp.cmpi .sle (sp x.2) c = 1#1).card
      = (Finset.univ.filter fun x : Fin 2048 => (sp x).toInt ≤ c.toInt).card := by
    refine Finset.card_bij (fun x _ => x.2) ?_ ?_ ?_
    · intro x hx
      exact Finset.mem_filter.2 ⟨Finset.mem_univ _, IntOp.cmpi_sle.1 (Finset.mem_filter.1 hx).2⟩
    · rintro ⟨a, x⟩ _ ⟨b, y⟩ _ h
      exact Prod.ext (Subsingleton.elim _ _) h
    · intro y hy
      exact ⟨(0, y), Finset.mem_filter.2 ⟨Finset.mem_univ _, IntOp.cmpi_sle.2 (Finset.mem_filter.1 hy).2⟩, rfl⟩
  have hle : (Finset.univ.filter fun x : Fin 2048 => (sp x).toInt ≤ c.toInt).card ≤ 2048 :=
    (Finset.card_le_univ _).trans (by simp)
  rw [count, fold_bits, hcard, IntOp.cmpi_slt]
  rw [← lt_count_iff (fun x => (sp x).toInt) hs c.toInt j]
  generalize (Finset.univ.filter fun x : Fin 2048 => (sp x).toInt ≤ c.toInt).card = K at hle ⊢
  have hj := j.isLt
  rw [BitVec.toInt_eq_toNat_of_lt (by simp; omega), BitVec.toInt_eq_toNat_of_lt (by simp; omega)]
  simp only [BitVec.toNat_ofNat]
  omega

/-- The kernel's threshold for row `i`: one past the row itself where the row is causal, else the number of columns whose
    span is at most the row's, picked among the four counts. -/
def thresh (sp : Fin 2048 → BitVec 32) (ca : Fin 2048 → BitVec 1) (i : Fin 2048) : BitVec 32 :=
  Scalar.select (IntOp.cmpi .ne (BitVec.setWidth 32 (ca i)) 0#32) (IntOp.addi (BitVec.ofNat 32 (i : ℕ)) 1#32)
    (Scalar.select (IntOp.cmpi .eq (sp i) 0#32) (count sp 0#32)
      (Scalar.select (IntOp.cmpi .eq (sp i) 1#32) (count sp 1#32)
        (Scalar.select (IntOp.cmpi .eq (sp i) 2#32) (count sp 2#32) (count sp 3#32))))

/-- The reference's visibility bit: an earlier span, or the same span at a close place, not after the row if it is causal. -/
def visible (sp : Fin 2048 → BitVec 32) (ca : Fin 2048 → BitVec 1) (near : Fin 2048 → Fin 2048 → BitVec 1) (i j : Fin 2048) :
    BitVec 1 :=
  IntOp.ori (IntOp.cmpi .sgt (sp i) (sp j))
    (IntOp.andi
      (IntOp.andi (IntOp.cmpi .eq (sp i) (sp j))
        (IntOp.ori (~~~ca i) (IntOp.cmpi .sge (BitVec.ofNat 32 (i : ℕ)) (BitVec.ofNat 32 (j : ℕ)))))
      (near i j))

/-- A disjunction of bits is on when one of them is. -/
theorem ori_one (a b : BitVec 1) : IntOp.ori a b = 1#1 ↔ a = 1#1 ∨ b = 1#1 := by revert a b; decide
/-- A conjunction of bits is on when both are. -/
theorem andi_one (a b : BitVec 1) : IntOp.andi a b = 1#1 ↔ a = 1#1 ∧ b = 1#1 := by revert a b; decide
/-- The negation of a bit is on when the bit is off. -/
theorem noti_one (a : BitVec 1) : ~~~a = 1#1 ↔ a ≠ 1#1 := by revert a; decide

/-- A choice by a bit that is on is its first value. -/
theorem select_one {α : Type} {c : BitVec 1} {a b : α} (h : c = 1#1) : Scalar.select c a b = a := if_pos h
/-- A choice by a bit that is off is its second value. -/
theorem select_not {α : Type} {c : BitVec 1} {a b : α} (h : ¬c = 1#1) : Scalar.select c a b = b := if_neg h

/-- The signed value of a position. -/
theorem toInt_pos (i : Fin 2048) : (BitVec.ofNat 32 (i : ℕ)).toInt = (i : ℤ) := by
  have := i.isLt
  rw [BitVec.toInt_eq_toNat_of_lt (by simp; omega)]
  simp; omega

/-- On sorted spans in `0, …, 3`, all places being close, the kernel's comparison is the reference's visibility. -/
theorem slt_thresh (sp : Fin 2048 → BitVec 32) (ca : Fin 2048 → BitVec 1) (near : Fin 2048 → Fin 2048 → BitVec 1)
    (hs : ∀ i j, i ≤ j → (sp i).toInt ≤ (sp j).toInt) (h0 : ∀ i, 0 ≤ (sp i).toInt) (h3 : ∀ i, (sp i).toInt ≤ 3)
    (hn : ∀ i j, near i j = 1#1) (i j : Fin 2048) :
    IntOp.cmpi .slt (BitVec.ofNat 32 (j : ℕ)) (thresh sp ca i) = 1#1 ↔ visible sp ca near i j = 1#1 := by
  rw [visible, ori_one, andi_one, andi_one, ori_one, noti_one, hn, IntOp.cmpi_sgt, IntOp.cmpi_eq, IntOp.cmpi_sge,
    toInt_pos, toInt_pos]
  have hij : i ≤ j ∨ j ≤ i := le_total i j
  have heq : sp i = sp j ↔ (sp i).toInt = (sp j).toInt := BitVec.toInt_inj.symm
  rw [heq]
  have hi0 := h0 i
  have hi3 := h3 i
  by_cases hc : ca i = 1#1
  · have : thresh sp ca i = IntOp.addi (BitVec.ofNat 32 (i : ℕ)) 1#32 := by
      rw [thresh, hc]; rfl
    rw [this, IntOp.cmpi_slt, toInt_pos]
    have h1 : (IntOp.addi (BitVec.ofNat 32 (i : ℕ)) 1#32).toInt = (i : ℤ) + 1 := by
      show (BitVec.ofNat 32 (i : ℕ) + 1#32).toInt = _
      have := i.isLt
      rw [← BitVec.ofNat_add, BitVec.toInt_eq_toNat_of_lt (by simp; omega)]
      simp; omega
    rw [h1]
    have hle : ∀ i j : Fin 2048, (j : ℤ) ≤ (i : ℤ) → (sp j).toInt ≤ (sp i).toInt := fun i j h =>
      hs j i (Fin.le_def.2 (by exact_mod_cast h))
    have a1 := hle i j
    have a2 := hle j i
    constructor
    · intro h
      have := a1 (by omega)
      by_cases he : (sp i).toInt = (sp j).toInt
      · exact Or.inr ⟨⟨he, Or.inr (by omega)⟩, rfl⟩
      · exact Or.inl (by omega)
    · rintro (h | ⟨⟨h, h' | h'⟩, _⟩)
      · by_contra hlt
        have := a2 (by omega)
        omega
      · exact absurd hc h'
      · omega
  · have hc0 : ca i = 0#1 := by
      rcases BitVec.eq_zero_or_eq_one (ca i) with h | h
      · exact h
      · exact absurd h hc
    have hcnt : thresh sp ca i = count sp (sp i) := by
      have hsel : Scalar.select (IntOp.cmpi .ne (BitVec.setWidth 32 (ca i)) 0#32) = fun (a b : BitVec 32) => b := by
        rw [hc0]; rfl
      rw [thresh, hsel]
      dsimp only
      by_cases e0 : sp i = 0#32
      · rw [select_one (IntOp.cmpi_eq.2 e0), e0]
      by_cases e1 : sp i = 1#32
      · rw [select_not (fun h => e0 (IntOp.cmpi_eq.1 h)), select_one (IntOp.cmpi_eq.2 e1), e1]
      by_cases e2 : sp i = 2#32
      · rw [select_not (fun h => e0 (IntOp.cmpi_eq.1 h)), select_not (fun h => e1 (IntOp.cmpi_eq.1 h)),
          select_one (IntOp.cmpi_eq.2 e2), e2]
      rw [select_not (fun h => e0 (IntOp.cmpi_eq.1 h)), select_not (fun h => e1 (IntOp.cmpi_eq.1 h)),
        select_not (fun h => e2 (IntOp.cmpi_eq.1 h))]
      have e3 : sp i = 3#32 := by
        rw [← BitVec.toInt_inj] at e0 e1 e2 ⊢
        simp at e0 e1 e2 ⊢
        omega
      rw [e3]
    rw [hcnt, slt_count sp hs]
    constructor
    · intro h
      by_cases he : (sp i).toInt = (sp j).toInt
      · exact Or.inr ⟨⟨he, Or.inl hc⟩, rfl⟩
      · exact Or.inl (by omega)
    · rintro (h | ⟨⟨h, _⟩, _⟩) <;> omega

/-- A row sees its own column. -/
theorem visible_self (sp : Fin 2048 → BitVec 32) (ca : Fin 2048 → BitVec 1) (near : Fin 2048 → Fin 2048 → BitVec 1)
    (hn : ∀ i j, near i j = 1#1) (i : Fin 2048) : visible sp ca near i i = 1#1 := by
  rw [visible, ori_one, andi_one, andi_one, ori_one, hn, IntOp.cmpi_eq, IntOp.cmpi_sge]
  exact Or.inr ⟨⟨rfl, Or.inr le_rfl⟩, rfl⟩

end Cert.Math

end
-- ==== Proof.Rows.lean ====
/- One row of the kernel's result and one row of the reference's, as functions of the arguments' entries, and that they
   are one function of the arguments the precondition admits. -/
module

public import proofs.«01_k».proof.Proof.Softmax
public import proofs.«01_k».proof.Proof.Mask

@[expose] public section

noncomputable section

namespace Cert.Math

open Idealize.ShloMosaic

/-- The kernel's entry of row `i`: `q` the row's query, `k` the keys, `v` one column of the values; `sc` the scale, `b` the
    bias of a visible entry, `mk` that of a hidden one. -/
def kerRow (sc b mk : EReal) (q : Fin 64 → EReal) (k : Fin 2048 → Fin 64 → EReal) (v : Fin 2048 → EReal)
    (sp : Fin 2048 → BitVec 32) (ca : Fin 2048 → BitVec 1) (i : Fin 2048) : EReal :=
  Ideal.div
    (∑ j : Fin 2048, Ideal.exp2 ((∑ e : Fin 64, q e * sc * k j e)
      + Scalar.select (IntOp.cmpi .slt (BitVec.ofNat 32 (j : ℕ)) (thresh sp ca i)) b mk) * v j)
    (∑ j : Fin 2048, Ideal.exp2 ((∑ e : Fin 64, q e * sc * k j e)
      + Scalar.select (IntOp.cmpi .slt (BitVec.ofNat 32 (j : ℕ)) (thresh sp ca i)) b mk) * 1)

/-- Whether two places lie closer than the radius, as the reference asks it. -/
def near (r : EReal) (co : Fin 2048 → Fin 2 → EReal) (i j : Fin 2048) : BitVec 1 :=
  BitVec.ofBool (decide (∑ x : Fin 2, (co i x - co j x) * (co i x - co j x) < r))

/-- The reference's masked score of row `i` and column `j`. -/
def refScore (sc mk r : EReal) (q : Fin 64 → EReal) (k : Fin 2048 → Fin 64 → EReal) (co : Fin 2048 → Fin 2 → EReal)
    (sp : Fin 2048 → BitVec 32) (ca : Fin 2048 → BitVec 1) (i j : Fin 2048) : EReal :=
  Scalar.select (visible sp ca (near r co) i j) ((∑ e : Fin 64, q e * k j e) * sc) mk

/-- A softmax-weighted sum of values, the softmax taken after subtracting the maximum. -/
def softRow (lo : EReal) (L : Fin 2048 → EReal) (v : Fin 2048 → EReal) : EReal :=
  ∑ j : Fin 2048, Ideal.div (Ideal.exp (L j - max lo (Finset.univ.fold max lo L)))
    (∑ j : Fin 2048, Ideal.exp (L j - max lo (Finset.univ.fold max lo L))) * v j

/-- The pattern of one eighth. -/
theorem ofBits_eighth : Ideal.ofBits .f32 0x3E000000#32 = ((1 / 8 : ℝ) : EReal) := by
  simp [Ideal.ofBits, Ideal.ieee, -EReal.coe_mul]; norm_num

/-- The pattern of minus infinity. -/
theorem ofBits_neg_inf : Ideal.ofBits .f32 0xFF800000#32 = ⊥ := by simp [Ideal.ofBits, Ideal.ieee]

/-- The pattern of plus infinity. -/
theorem ofBits_inf : Ideal.ofBits .f32 0x7F800000#32 = ⊤ := by simp [Ideal.ofBits, Ideal.ieee]

/-- The pattern of the squared radius. -/
theorem ofBits_radius : Ideal.ofBits .f32 0x40C80000#32 = ((25 / 4 : ℝ) : EReal) := by
  simp [Ideal.ofBits, Ideal.ieee, -EReal.coe_mul]; norm_num

/-- The bias of a visible entry is some real number; which one does not matter. -/
theorem ofBits_bias : ∃ b : ℝ, Ideal.ofBits .f32 0xC20A7FAC#32 = (b : EReal) :=
  ⟨_, by simp only [Ideal.ofBits, Ideal.ieee]; rw [if_neg (by decide), if_neg (by decide)]⟩

/-- Two coordinates in the unit interval differ by at most one, so their squared difference is at most one. -/
theorem sq_le_one (a b : EReal) (ha0 : 0 ≤ a) (ha1 : a ≤ 1) (hb0 : 0 ≤ b) (hb1 : b ≤ 1) : (a - b) * (a - b) ≤ 1 := by
  have lift : ∀ x : EReal, 0 ≤ x → x ≤ 1 → ∃ r : ℝ, x = r ∧ 0 ≤ r ∧ r ≤ 1 := fun x h0 h1 => by
    refine ⟨x.toReal, (EReal.coe_toReal ?_ ?_).symm, ?_, ?_⟩
    · rintro rfl; exact absurd h1 (by decide)
    · rintro rfl; exact absurd h0 (by decide)
    · exact EReal.toReal_nonneg h0
    · have hb : x ≠ ⊥ := by rintro rfl; exact absurd h0 (by decide)
      have := EReal.toReal_le_toReal h1 hb (by exact_mod_cast EReal.coe_ne_top 1)
      simpa using this
  obtain ⟨r, rfl, r0, r1⟩ := lift a ha0 ha1
  obtain ⟨s, rfl, s0, s1⟩ := lift b hb0 hb1
  rw [← EReal.coe_sub, ← EReal.coe_mul, ← EReal.coe_one, EReal.coe_le_coe_iff]
  nlinarith

/-- Places in the unit square are all closer than the radius. -/
theorem near_all (co : Fin 2048 → Fin 2 → EReal) (h0 : ∀ i x, 0 ≤ co i x) (h1 : ∀ i x, co i x ≤ 1) (i j : Fin 2048) :
    near ((25 / 4 : ℝ) : EReal) co i j = 1#1 := by
  have h : ∑ x : Fin 2, (co i x - co j x) * (co i x - co j x) < ((25 / 4 : ℝ) : EReal) := by
    rw [Fin.sum_univ_two]
    refine lt_of_le_of_lt (add_le_add (sq_le_one _ _ (h0 i 0) (h1 i 0) (h0 j 0) (h1 j 0))
      (sq_le_one _ _ (h0 i 1) (h1 i 1) (h0 j 1) (h1 j 1))) ?_
    rw [← EReal.coe_one, ← EReal.coe_add, EReal.coe_lt_coe_iff]
    norm_num
  rw [near, decide_eq_true h]; rfl

/-- An extended real that is neither infinity is a real number. -/
theorem real_of_finite (x : EReal) (hb : x ≠ ⊥) (ht : x ≠ ⊤) : ∃ r : ℝ, x = (r : EReal) :=
  ⟨x.toReal, (EReal.coe_toReal ht hb).symm⟩

/-- The kernel's scaled product of two real vectors is the reference's, over `ln 2`. -/
theorem score_ker (q k : Fin 64 → ℝ) :
    ∑ e : Fin 64, (q e : EReal) * (((Real.log 2)⁻¹ * (Real.sqrt 64)⁻¹ : ℝ) : EReal) * (k e : EReal)
      = (((∑ e : Fin 64, q e * k e) * (1 / 8) * (Real.log 2)⁻¹ : ℝ) : EReal) := by
  have h8 : Real.sqrt 64 = 8 := by
    rw [show (64 : ℝ) = 8 ^ 2 by norm_num]
    exact Real.sqrt_sq (by norm_num)
  simp only [← EReal.coe_mul]
  rw [← coe_sum, h8, Finset.sum_mul, Finset.sum_mul]
  refine congrArg _ (Finset.sum_congr rfl fun e _ => ?_)
  ring

/-- The reference's scaled product of two real vectors is a real number. -/
theorem score_ref (q k : Fin 64 → ℝ) :
    (∑ e : Fin 64, (q e : EReal) * (k e : EReal)) * ((1 / 8 : ℝ) : EReal)
      = (((∑ e : Fin 64, q e * k e) * (1 / 8) : ℝ) : EReal) := by
  simp only [← EReal.coe_mul]
  rw [← coe_sum, ← EReal.coe_mul]

/-- The two rows are equal where the precondition holds: finite queries and keys, places in the unit square, sorted spans
    in `0, …, 3`. The values are any extended reals and the causal flags any bits. -/
theorem ker_eq_ref (q : Fin 64 → EReal) (k : Fin 2048 → Fin 64 → EReal) (v : Fin 2048 → EReal)
    (co : Fin 2048 → Fin 2 → EReal) (sp : Fin 2048 → BitVec 32) (ca : Fin 2048 → BitVec 1) (i : Fin 2048)
    (hq : ∀ e, ∃ r : ℝ, q e = (r : EReal)) (hk : ∀ j e, ∃ r : ℝ, k j e = (r : EReal))
    (hc0 : ∀ i x, 0 ≤ co i x) (hc1 : ∀ i x, co i x ≤ 1)
    (hs : ∀ i j, i ≤ j → (sp i).toInt ≤ (sp j).toInt) (h0 : ∀ i, 0 ≤ (sp i).toInt) (h3 : ∀ i, (sp i).toInt ≤ 3) :
    kerRow (((Real.log 2)⁻¹ * (Real.sqrt 64)⁻¹ : ℝ) : EReal) (Ideal.ofBits .f32 0xC20A7FAC#32) ⊥ q k v sp ca i
      = softRow ⊥ (refScore ((1 / 8 : ℝ) : EReal) ⊥ ((25 / 4 : ℝ) : EReal) q k co sp ca i) v := by
  choose q' hq' using hq
  choose k' hk' using hk
  obtain ⟨b, hb⟩ := ofBits_bias
  have hn := near_all co hc0 hc1
  have hself := visible_self sp ca _ hn i
  have hvis := slt_thresh sp ca _ hs h0 h3 hn i
  have hsel : ∀ (j : Fin 2048), Scalar.select (IntOp.cmpi .slt (BitVec.ofNat 32 (j : ℕ)) (thresh sp ca i)) (b : EReal) ⊥
      = if visible sp ca (near ((25 / 4 : ℝ) : EReal) co) i j = 1#1 then (b : EReal) else ⊥ := fun j => by
    by_cases h : visible sp ca (near ((25 / 4 : ℝ) : EReal) co) i j = 1#1
    · rw [if_pos h, select_one ((hvis j).2 h)]
    · rw [if_neg h, select_not (fun h' => h ((hvis j).1 h'))]
  have hL : refScore ((1 / 8 : ℝ) : EReal) ⊥ ((25 / 4 : ℝ) : EReal) q k co sp ca i
      = fun j => if visible sp ca (near ((25 / 4 : ℝ) : EReal) co) i j = 1#1
          then (((∑ e : Fin 64, q' e * k' j e) * (1 / 8) : ℝ) : EReal) else ⊥ := funext fun j => by
    rw [refScore]
    simp only [hq', hk', score_ref]
    by_cases h : visible sp ca (near ((25 / 4 : ℝ) : EReal) co) i j = 1#1
    · rw [if_pos h, select_one h]
    · rw [if_neg h, select_not h]
  rw [kerRow, softRow, hL, hb]
  simp only [hq', hk', score_ker, hsel]
  exact row_eq (fun j => (∑ e : Fin 64, q' e * k' j e) * (1 / 8))
    (fun j => visible sp ca (near ((25 / 4 : ℝ) : EReal) co) i j = 1#1) i hself b v

end Cert.Math

end
-- ==== Proof.KernelValue.lean ====
/- What the kernel leaves: the bias its scratch holds from the first head on, the block each head writes, and the whole
   result array. -/
module

public import proofs.«01_k».proof.Proof.Gen.KernelIdeal.Frame
public import Idealize.ShloMosaic.Lib.Pipeline.ValueKit
public import Idealize.ShloMosaic.Lib.Pointwise
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- Where each window's block lies: head `t` of the queries, keys, values and result, the whole of the span and causal rows. -/
theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![t.val, 0, 0] :=
  (by decide +kernel : ∀ t : Fin grid0.N, _)

/-- The span row as a function of positions. -/
def spans (c : Dev nD) (i : Fin 2048) : BitVec 32 := (m ((c : Thread nD τ).loc main_arg4) : IVec S2048 32) (ix1 i)

/-- The causal row as a function of positions. -/
def causal (c : Dev nD) (i : Fin 2048) : BitVec 1 := (m ((c : Thread nD τ).loc main_arg5) : IVec S2048 1) (ix1 i)

/-- The bias of row `i` and column `j`. -/
def biasAt (sp : Fin 2048 → BitVec 32) (ca : Fin 2048 → BitVec 1) (i j : Fin 2048) : EReal :=
  Scalar.select (IntOp.cmpi .slt (BitVec.ofNat 32 (j : ℕ)) (Cert.Math.thresh sp ca i))
    (Ideal.ofBits .f32 0xC20A7FAC#32) (Named.named (F := Ideal) κ "mask" (φ := .f32) 0xF149F2CA#32)

/-- The bias payload at an index, over rows whose entries are those of one span row and one causal row. -/
theorem bias_pay (sq : IVec S2048x1 32) (sk : IVec S1x2048 32) (cc : IVec S2048x1 32)
    (sp : Fin 2048 → BitVec 32) (ca : Fin 2048 → BitVec 1)
    (hq : ∀ i : Fin 2048, sq (ix2 i 0) = sp i) (hk : ∀ j : Fin 2048, sk (ix2 0 j) = sp j)
    (hc : ∀ i : Fin 2048, cc (ix2 i 0) = BitVec.setWidth 32 (ca i)) (i j : Fin 2048) :
    k0_pay1 (F := Ideal) (k0_pay5 (F := Ideal) cc) (extractAt ![0, 0, 0] (k0_pay6 (F := Ideal) sk) inpos_S1x1x1_p0_0_0)
      (extractAt ![0, 0, 0] (k0_pay7 (F := Ideal) sk) inpos_S1x1x1_p0_0_0) (k0_pay8 (F := Ideal) sq) (k0_pay9 (F := Ideal) sq)
      (k0_pay10 (F := Ideal) sq sk) (ix2 i j) = biasAt sp ca i j := by
  pointwise [k0_pay1, k0_pay3, k0_pay4, k0_pay5, k0_pay6, k0_pay7, k0_pay8, k0_pay9, k0_pay10]
  simp only [hq, hk, hc]
  rfl

/-- The output payload at an index, given its four operands' entries. -/
theorem out_pay (q k : FVec Ideal S1x2048x64 .f32) (va : FVec Ideal S1x2048x65 .bf16) (b : FVec Ideal S2048x2048 .bf16)
    (sp : Fin 2048 → BitVec 32) (ca : Fin 2048 → BitVec 1) (v : Fin 2048 → EReal) (i : Fin 2048) (d : Fin 64)
    (hb : ∀ j : Fin 2048, b (ix2 i j) = biasAt sp ca i j)
    (hv : ∀ j : Fin 2048, va (ix3 0 j ⟨(d : ℕ), by omega⟩) = v j) (h1 : ∀ j : Fin 2048, va (ix3 0 j 64) = 1) :
    k0_pay2 (F := Ideal) q k va b (ix3 0 i d)
      = Cert.Math.kerRow (Named.named (F := Ideal) κ "scale2" (φ := .f32) 0x3E38AA3B#32) (Ideal.ofBits .f32 0xC20A7FAC#32)
          (Named.named (F := Ideal) κ "mask" (φ := .f32) 0xF149F2CA#32)
          (fun e => q (ix3 0 i e)) (fun j e => k (ix3 0 j e)) v sp ca i := by
  pointwise [k0_pay2]
  simp only [hb, hv, h1]
  rfl

/-- The queries the region reads, as the host operations before it leave them, at an index. -/
theorem host_q (c : Dev nD) (h : Fin 12) (i : Fin 2048) (e : Fin 64) :
    (V m c main_call0_v0 : FVec Ideal S12x2048x64 .f32) (ix3 h i e)
      = (m ((c : Thread nD τ).loc main_arg0) : FVec Ideal S1x12x2048x64 .f32) (ix4 0 h i e) := by
  simp only [V, V0, List.flatten_cons, List.flatten_nil, List.append_nil, hostOps0, StableHlo.TRef.reshape, StableHlo.TRef.binary, StableHlo.TRef.unary, StableHlo.TRef.nullary, StableHlo.TRef.toBuf, StableHlo.TRef.ofBuf, cast_eq]
  after_results_simp
  pointwise

/-- The keys the region reads. -/
theorem host_k (c : Dev nD) (h : Fin 12) (i : Fin 2048) (e : Fin 64) :
    (V m c main_call0_v1 : FVec Ideal S12x2048x64 .f32) (ix3 h i e)
      = (m ((c : Thread nD τ).loc main_arg1) : FVec Ideal S1x12x2048x64 .f32) (ix4 0 h i e) := by
  simp only [V, V0, List.flatten_cons, List.flatten_nil, List.append_nil, hostOps0, StableHlo.TRef.reshape, StableHlo.TRef.binary, StableHlo.TRef.unary, StableHlo.TRef.nullary, StableHlo.TRef.toBuf, StableHlo.TRef.ofBuf, cast_eq]
  after_results_simp
  pointwise

/-- The widened values the region reads: their first 64 columns. -/
theorem host_v (c : Dev nD) (h : Fin 12) (j : Fin 2048) (d : Fin 64) :
    (V m c main_call0_v5 : FVec Ideal S12x2048x65 .bf16) (ix3 h j ⟨(d : ℕ), by omega⟩)
      = (m ((c : Thread nD τ).loc main_arg2) : FVec Ideal S1x12x2048x64 .f32) (ix4 0 h j d) := by
  simp only [V, V0, List.flatten_cons, List.flatten_nil, List.append_nil, hostOps0, StableHlo.TRef.reshape, StableHlo.TRef.binary, StableHlo.TRef.unary, StableHlo.TRef.nullary, StableHlo.TRef.toBuf, StableHlo.TRef.ofBuf, cast_eq]
  after_results_simp
  pointwise
  after_results_simp
  pointwise

/-- The widened values the region reads: their last column. -/
theorem host_one (c : Dev nD) (h : Fin 12) (j : Fin 2048) :
    (V m c main_call0_v5 : FVec Ideal S12x2048x65 .bf16) (ix3 h j 64) = (1 : EReal) := by
  simp only [V, V0, List.flatten_cons, List.flatten_nil, List.append_nil, hostOps0, StableHlo.TRef.reshape, StableHlo.TRef.binary, StableHlo.TRef.unary, StableHlo.TRef.nullary, StableHlo.TRef.toBuf, StableHlo.TRef.ofBuf, cast_eq]
  after_results_simp
  pointwise
  after_results_simp
  pointwise

/-- The spans the region reads as a column. -/
theorem host_sq (c : Dev nD) (i : Fin 2048) : (V m c main_call0_v6 : IVec S2048x1 32) (ix2 i 0) = spans m c i := by
  unfold spans; simp only [V, V0, List.flatten_cons, List.flatten_nil, List.append_nil, hostOps0, StableHlo.TRef.reshape, StableHlo.TRef.binary, StableHlo.TRef.unary, StableHlo.TRef.nullary, StableHlo.TRef.toBuf, StableHlo.TRef.ofBuf, cast_eq]
  after_results_simp
  pointwise

/-- The spans the region reads as a row. -/
theorem host_sk (c : Dev nD) (j : Fin 2048) : (V m c main_call0_v7 : IVec S1x2048 32) (ix2 0 j) = spans m c j := by
  unfold spans; simp only [V, V0, List.flatten_cons, List.flatten_nil, List.append_nil, hostOps0, StableHlo.TRef.reshape, StableHlo.TRef.binary, StableHlo.TRef.unary, StableHlo.TRef.nullary, StableHlo.TRef.toBuf, StableHlo.TRef.ofBuf, cast_eq]
  after_results_simp
  pointwise

/-- The causal flags the region reads as a column of words. -/
theorem host_ca (c : Dev nD) (i : Fin 2048) :
    (V m c main_call0_v9 : IVec S2048x1 32) (ix2 i 0) = BitVec.setWidth 32 (causal m c i) := by
  unfold causal; simp only [V, V0, List.flatten_cons, List.flatten_nil, List.append_nil, hostOps0, StableHlo.TRef.reshape, StableHlo.TRef.binary, StableHlo.TRef.unary, StableHlo.TRef.nullary, StableHlo.TRef.toBuf, StableHlo.TRef.ofBuf, cast_eq]
  after_results_simp
  pointwise

/-- Head `t` of the queries, at an index. -/
theorem blk_q (c : Dev nD) (t : Fin cfg0.N) (i : Fin 2048) (e : Fin 64) :
    (iblk m c 0 t : FVec Ideal S1x2048x64 .f32) (ix3 0 i e) =
      (m ((c : Thread nD τ).loc main_arg0) : FVec Ideal S1x12x2048x64 .f32) (ix4 0 ⟨t.val, lt_of_lt_of_eq t.isLt N_0⟩ i e) := by
  refine Eq.trans ?_ (host_q m c ⟨t.val, lt_of_lt_of_eq t.isLt N_0⟩ i e)
  blk_ext [iblk, idx t]

/-- Head `t` of the keys, at an index. -/
theorem blk_k (c : Dev nD) (t : Fin cfg0.N) (i : Fin 2048) (e : Fin 64) :
    (iblk m c 1 t : FVec Ideal S1x2048x64 .f32) (ix3 0 i e) =
      (m ((c : Thread nD τ).loc main_arg1) : FVec Ideal S1x12x2048x64 .f32) (ix4 0 ⟨t.val, lt_of_lt_of_eq t.isLt N_0⟩ i e) := by
  refine Eq.trans ?_ (host_k m c ⟨t.val, lt_of_lt_of_eq t.isLt N_0⟩ i e)
  blk_ext [iblk, idx t]

/-- Head `t` of the widened values: the first 64 columns are the values. -/
theorem blk_v (c : Dev nD) (t : Fin cfg0.N) (j : Fin 2048) (d : Fin 64) :
    (iblk m c 2 t : FVec Ideal S1x2048x65 .bf16) (ix3 0 j ⟨(d : ℕ), by omega⟩) =
      (m ((c : Thread nD τ).loc main_arg2) : FVec Ideal S1x12x2048x64 .f32) (ix4 0 ⟨t.val, lt_of_lt_of_eq t.isLt N_0⟩ j d) := by
  refine Eq.trans ?_ (host_v m c ⟨t.val, lt_of_lt_of_eq t.isLt N_0⟩ j d)
  blk_ext [iblk, idx t]

/-- Head `t` of the widened values: the last column is one. -/
theorem blk_one (c : Dev nD) (t : Fin cfg0.N) (j : Fin 2048) :
    (iblk m c 2 t : FVec Ideal S1x2048x65 .bf16) (ix3 0 j 64) = (1 : EReal) := by
  refine Eq.trans ?_ (host_one m c ⟨t.val, lt_of_lt_of_eq t.isLt N_0⟩ j)
  blk_ext [iblk, idx t]

/-- The spans as a column. -/
theorem blk_sq (c : Dev nD) (t : Fin cfg0.N) (i : Fin 2048) :
    (iblk m c 3 t : IVec S2048x1 32) (ix2 i 0) = spans m c i := by
  refine Eq.trans ?_ (host_sq m c i)
  blk_ext [iblk, idx t]

/-- The spans as a row. -/
theorem blk_sk (c : Dev nD) (t : Fin cfg0.N) (j : Fin 2048) :
    (iblk m c 4 t : IVec S1x2048 32) (ix2 0 j) = spans m c j := by
  refine Eq.trans ?_ (host_sk m c j)
  blk_ext [iblk, idx t]

/-- The causal flags as a column of words. -/
theorem blk_ca (c : Dev nD) (t : Fin cfg0.N) (i : Fin 2048) :
    (iblk m c 5 t : IVec S2048x1 32) (ix2 i 0) = BitVec.setWidth 32 (causal m c i) := by
  refine Eq.trans ?_ (host_ca m c i)
  blk_ext [iblk, idx t]

/-- The scratch after any head is the bias of the span and causal rows: the first head computes it, the later ones leave it. -/
theorem scratch (c : Dev nD) (i j : Fin 2048) : ∀ (n : ℕ) (h : n < cfg0.N),
    (outsAt0 m c n h).2 (ix2 i j) = biasAt (spans m c) (causal m c) i j
  | 0, h => by
    rw [outsAt0_A m c ⟨0, h⟩ rfl]
    frame_out
    exact bias_pay _ _ _ _ _ (blk_sq m c _) (blk_sk m c _) (blk_ca m c _) i j
  | n + 1, h => by
    rw [outsAt0_B m c ⟨n + 1, h⟩ (by have := lt_of_lt_of_eq h N_0; show ¬(n + 1) % 12 = 0; omega)]
    frame_out
    exact scratch c i j n _

/-- What head `t` writes, at an index. -/
theorem out_at (c : Dev nD) (t : Fin cfg0.N) (i : Fin 2048) (d : Fin 64) :
    (outsAt0 m c t.val t.isLt).1 (ix3 0 i d)
      = Cert.Math.kerRow (Named.named (F := Ideal) κ "scale2" (φ := .f32) 0x3E38AA3B#32) (Ideal.ofBits .f32 0xC20A7FAC#32)
          (Named.named (F := Ideal) κ "mask" (φ := .f32) 0xF149F2CA#32)
          (fun e => (m ((c : Thread nD τ).loc main_arg0) : FVec Ideal S1x12x2048x64 .f32) (ix4 0 ⟨t.val, lt_of_lt_of_eq t.isLt N_0⟩ i e))
          (fun j e => (m ((c : Thread nD τ).loc main_arg1) : FVec Ideal S1x12x2048x64 .f32) (ix4 0 ⟨t.val, lt_of_lt_of_eq t.isLt N_0⟩ j e))
          (fun j => (m ((c : Thread nD τ).loc main_arg2) : FVec Ideal S1x12x2048x64 .f32) (ix4 0 ⟨t.val, lt_of_lt_of_eq t.isLt N_0⟩ j d))
          (spans m c) (causal m c) i := by
  simp only [← blk_q m c t, ← blk_k m c t]
  obtain ⟨n, hn⟩ := t
  cases n with
  | zero =>
    rw [outsAt0_A m c ⟨0, hn⟩ rfl]
    frame_out
    exact out_pay _ _ _ _ _ _ _ i d (bias_pay _ _ _ _ _ (blk_sq m c _) (blk_sk m c _) (blk_ca m c _) i)
      (fun j => blk_v m c _ j d) (blk_one m c _)
  | succ n =>
    rw [outsAt0_B m c ⟨n + 1, hn⟩ (by have := lt_of_lt_of_eq hn N_0; show ¬(n + 1) % 12 = 0; omega)]
    frame_out
    refine out_pay _ _ _ _ _ _ _ i d (fun j => ?_) (fun j => blk_v m c _ j d) (blk_one m c _)
    exact (congrFun (Memref.IsWhole.read_unread _ _) _).trans (scratch m c i j n _)

/-- The entry of the result at head `h`, row `i`, column `d`: the kernel's row over the launch arguments. -/
def entry (c : Dev nD) (h : Fin 12) (i : Fin 2048) (d : Fin 64) : EReal :=
  Cert.Math.kerRow (Named.named (F := Ideal) κ "scale2" (φ := .f32) 0x3E38AA3B#32) (Ideal.ofBits .f32 0xC20A7FAC#32)
    (Named.named (F := Ideal) κ "mask" (φ := .f32) 0xF149F2CA#32)
    (fun e => (m ((c : Thread nD τ).loc main_arg0) : FVec Ideal S1x12x2048x64 .f32) (ix4 0 h i e))
    (fun j e => (m ((c : Thread nD τ).loc main_arg1) : FVec Ideal S1x12x2048x64 .f32) (ix4 0 h j e))
    (fun j => (m ((c : Thread nD τ).loc main_arg2) : FVec Ideal S1x12x2048x64 .f32) (ix4 0 h j d))
    (spans m c) (causal m c) i

/-- The array the region writes, whole. -/
def written (c : Dev nD) : FVec Ideal S12x2048x64 .f32 := fun y => entry m c (y 0) (y 1) (y 2)

/-- After the run the region's result array is `written`. -/
theorem final (c : Dev nD) : (dats m 0 c).arrAt 6 (cfgs 0).N = written m c := by
  refine (dats m 0 c).arrAt_eq_of_covers 6 _ (by decide +kernel) fun t _ y => ?_
  idx_vars y
  blk_simp
  rw [after0_6]
  have hy : (win0_6.blk t).view.emb (ix3 y0 y1 y2) = ix3 ⟨t.val, lt_of_lt_of_eq t.isLt N_0⟩ y1 y2 := by
    blk_ext [idx t]
  rw [hy]
  obtain rfl : y0 = 0 := Subsingleton.elim _ _
  exact out_at m c t y1 y2

/-- The result: `written` with a leading axis of length one. -/
def result (c : Dev nD) : FVec Ideal S1x12x2048x64 .f32 := fun y => entry m c (y 1) (y 2) (y 3)

/-- What the line after the region leaves in the result. -/
theorem tail (c : Dev nD) : Pipeline.afterTail₀ cfgs (dats m) 0 (V0 m) [hostOps1] c main_v0 = result m c := by
  unfold Pipeline.afterTail₀
  simp only [List.flatten_cons, List.flatten_nil, List.append_nil, hostOps1, StableHlo.TRef.unary,
    StableHlo.TRef.toBuf, StableHlo.TRef.ofBuf, cast_eq]
  after_results
  have h : Pipeline.withArrays (cfgs 0).spec c (V0 m c) (fun w => (dats m 0 c).arrAt w (cfgs 0).N) (Proc.tc.devRef main_call0_v10)
      = written m c :=
    (Pipeline.withArrays_arr (cfgs 0).spec (by decide) c (V0 m c) (fun w => (dats m 0 c).arrAt w (cfgs 0).N) 6).trans (final m c)
  rw [h]
  funext y
  idx_vars y
  pointwise
  rfl

/-- Every run of the kernel ends with the result at `result` and the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    have rest : ∀ b : Ref sig .tc, b.isScoped = false → (∀ w, Pipeline.arrRef spec0 w ≠ b) →
        r.2.mem ((c.tc : Thread nD τ).loc b) = Pipeline.afterTail₀ cfgs (dats m) 0 (V0 m) [hostOps1] c b :=
      fun b hs ha => (h c).2 b (Pipeline.mem_restRefs_of b hs ha)
    ⟨(rest main_v0 (by decide) (by decide)).trans (tail m c),
      (rest main_arg0 (by decide) (by decide)).trans (W_main_arg0 m (dats m) c),
      (rest main_arg1 (by decide) (by decide)).trans (W_main_arg1 m (dats m) c),
      (rest main_arg2 (by decide) (by decide)).trans (W_main_arg2 m (dats m) c),
      (rest main_arg3 (by decide) (by decide)).trans (W_main_arg3 m (dats m) c),
      (rest main_arg4 (by decide) (by decide)).trans (W_main_arg4 m (dats m) c),
      (rest main_arg5 (by decide) (by decide)).trans (W_main_arg5 m (dats m) c)⟩) (run_main m ρ)

end Cert.KernelIdeal.Value

end
-- ==== Proof.RefValue.lean ====
/- What the reference leaves, read at an index in four steps: the mask, the masked scores, the exponentials, the output. -/
module

public import proofs.«01_k».proof.Proof.Gen.ReferenceIdeal.Run
public import Idealize.ShloMosaic.Lib.Pipeline.ValueKit
public import Idealize.ShloMosaic.Lib.Pointwise
public import proofs.«01_k».proof.Proof.Rows

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- Which pairs of positions may attend, as an array. -/
def maskArr (co : FVec Ideal S2048x2 .f32) (sp : IVec S2048 32) (ca : IVec S2048 1) : IVec S2048x2048 1 :=
  ori (cmpi .sgt (broadcastInDim S2048x2048 ![0, 1] bcast_S2048x1_S2048x2048_0_1 (broadcastInDim S2048x1 ![0]
    bcast_S2048_S2048x1_0 sp)) (broadcastInDim S2048x2048 ![0, 1] bcast_S1x2048_S2048x2048_0_1 (broadcastInDim S1x2048
    ![1] bcast_S2048_S1x2048_1 sp))) (andi (andi (cmpi .eq (broadcastInDim S2048x2048 ![0, 1]
    bcast_S2048x1_S2048x2048_0_1 (broadcastInDim S2048x1 ![0] bcast_S2048_S2048x1_0 sp)) (broadcastInDim S2048x2048 ![0,
    1] bcast_S1x2048_S2048x2048_0_1 (broadcastInDim S1x2048 ![1] bcast_S2048_S1x2048_1 sp))) (ori (broadcastInDim
    S2048x2048 ![0, 1] bcast_S2048x1_S2048x2048_0_1 (noti (broadcastInDim S2048x1 ![0] bcast_S2048_S2048x1_0 ca))) (cmpi
    .sge (broadcastInDim S2048x2048 ![0, 1] bcast_S2048x1_S2048x2048_0_1 (broadcastInDim S2048x1 ![0]
    bcast_S2048_S2048x1_0 (iotaInDim S2048 32 0))) (broadcastInDim S2048x2048 ![0, 1] bcast_S1x2048_S2048x2048_0_1
    (broadcastInDim S1x2048 ![1] bcast_S2048_S1x2048_1 (iotaInDim S2048 32 0)))))) (cmpf .olt (Host.reduceAdd (mulf
    (subf (broadcastInDim S2048x2048x2 ![0, 1, 2] bcast_S2048x1x2_S2048x2048x2_0_1_2 (broadcastInDim S2048x1x2 ![0, 2]
    bcast_S2048x2_S2048x1x2_0_2 co)) (broadcastInDim S2048x2048x2 ![0, 1, 2] bcast_S1x2048x2_S2048x2048x2_0_1_2
    (broadcastInDim S1x2048x2 ![1, 2] bcast_S2048x2_S1x2048x2_1_2 co))) (subf (broadcastInDim S2048x2048x2 ![0, 1, 2]
    bcast_S2048x1x2_S2048x2048x2_0_1_2 (broadcastInDim S2048x1x2 ![0, 2] bcast_S2048x2_S2048x1x2_0_2 co))
    (broadcastInDim S2048x2048x2 ![0, 1, 2] bcast_S1x2048x2_S2048x2048x2_0_1_2 (broadcastInDim S1x2048x2 ![1, 2]
    bcast_S2048x2_S1x2048x2_1_2 co)))) (constant S_ .f32 0x00000000#32) reducesTo_S2048x2048x2_S2048x2048_d2 h_S_)
    (broadcastInDim S2048x2048 ![] bcast_S_S2048x2048 (constant S_ .f32 0x40C80000#32))))

/-- The scores, `-∞` where the mask is off. -/
def scoreArr (M : IVec S2048x2048 1) (q k : FVec Ideal S1x12x2048x64 .f32) : FVec Ideal S1x12x2048x2048 .f32 :=
  select (broadcastInDim S1x12x2048x2048 ![0, 1, 2, 3] bcast_S1x1x2048x2048_S1x12x2048x2048_0_1_2_3 (broadcastInDim
    S1x1x2048x2048 ![2, 3] bcast_S2048x2048_S1x1x2048x2048_2_3 M)) (mulf (Host.dotGeneral
    dot_S1x12x2048x64_S1x12x2048x64_S1x12x2048x2048_3_3_2_2_01_01 none q k) (broadcastInDim S1x12x2048x2048 ![]
    bcast_S_S1x12x2048x2048 (constant S_ .f32 0x3E000000#32))) (broadcastInDim S1x12x2048x2048 ![]
    bcast_S_S1x12x2048x2048 (id (constant S_ .f32 0xFF800000#32)))

/-- The largest score of every row. -/
def topArr (L : FVec Ideal S1x12x2048x2048 .f32) : FVec Ideal S1x12x2048 .f32 :=
  Host.reduce FloatOps.maximumf L (constant S_ .f32 0xFF800000#32) reducesTo_S1x12x2048x2048_S1x12x2048_d3 h_S_

/-- The exponentials of the scores less their row's top `T`. -/
def expArr (L : FVec Ideal S1x12x2048x2048 .f32) (T : FVec Ideal S1x12x2048 .f32) : FVec Ideal S1x12x2048x2048 .f32 :=
  Host.exp (subf L (broadcastInDim S1x12x2048x2048 ![0, 1, 2, 3] bcast_S1x12x2048x1_S1x12x2048x2048_0_1_2_3
    (broadcastInDim S1x12x2048x1 ![0, 1, 2] bcast_S1x12x2048_S1x12x2048x1_0_1_2 (maximumf (broadcastInDim S1x12x2048 ![]
    bcast_S_S1x12x2048 (constant S_ .f32 0xFF800000#32)) T))))

/-- The exponentials divided by their row's sum, against the values. -/
def outArr (E : FVec Ideal S1x12x2048x2048 .f32) (v : FVec Ideal S1x12x2048x64 .f32) : FVec Ideal S1x12x2048x64 .f32 :=
  Host.dotGeneral dot_S1x12x2048x2048_S1x12x2048x64_S1x12x2048x64_3_2_2_3_01_01 none (Host.divf E (broadcastInDim
    S1x12x2048x2048 ![0, 1, 2, 3] bcast_S1x12x2048x1_S1x12x2048x2048_0_1_2_3 (broadcastInDim S1x12x2048x1 ![0, 1, 2]
    bcast_S1x12x2048_S1x12x2048x1_0_1_2 (Host.reduceAdd E (constant S_ .f32 0x00000000#32)
    reducesTo_S1x12x2048x2048_S1x12x2048_d3 h_S_)))) v

/-- The mask at a pair of positions. -/
theorem mask_at (co : FVec Ideal S2048x2 .f32) (sp : IVec S2048 32) (ca : IVec S2048 1) (i j : Fin 2048) :
    maskArr co sp ca (ix2 i j)
      = Cert.Math.visible (fun i => sp (ix1 i)) (fun i => ca (ix1 i))
          (Cert.Math.near ((25 / 4 : ℝ) : EReal) fun i x => co (ix2 i x)) i j := by
  pointwise [maskArr]
  rw [Cert.Math.ofBits_radius]
  rfl

/-- The masked score at a head and a pair of positions. -/
theorem score_at (M : IVec S2048x2048 1) (q k : FVec Ideal S1x12x2048x64 .f32) (h : Fin 12) (i j : Fin 2048) :
    scoreArr M q k (ix4 0 h i j)
      = Scalar.select (M (ix2 i j)) ((∑ e : Fin 64, q (ix4 0 h i e) * k (ix4 0 h j e)) * ((1 / 8 : ℝ) : EReal)) ⊥ := by
  pointwise [scoreArr]
  rw [Cert.Math.ofBits_eighth]
  exact congrArg _ Cert.Math.ofBits_neg_inf

/-- A maximum along the last of four axes, at an index. -/
theorem max_last {n0 n1 n2 n3 : ℕ} {u : Shape} (x : FVec Ideal ⟨4, ![n0, n1, n2, n3]⟩ .f32) (z : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal) (φ := .f32)) x z h hu (ix3 a b c)
      = Finset.univ.fold max (z (Shape.Idx.first hu)) fun k : Fin n3 => x (ix4 a b c k) := by
  simp only [pointwise]

/-- The largest score of a row. -/
theorem top_at (L : FVec Ideal S1x12x2048x2048 .f32) (h : Fin 12) (i : Fin 2048) :
    topArr L (ix3 0 h i) = Finset.univ.fold max ⊥ fun x : Fin 2048 => L (ix4 0 h i x) :=
  (max_last L _ _ _ 0 h i).trans (congrArg (fun b => Finset.univ.fold max b _) Cert.Math.ofBits_neg_inf)

/-- The exponential at a head and a pair of positions. -/
theorem exp_at (L : FVec Ideal S1x12x2048x2048 .f32) (T : FVec Ideal S1x12x2048 .f32) (h : Fin 12) (i j : Fin 2048) :
    expArr L T (ix4 0 h i j) = Ideal.exp (L (ix4 0 h i j) - max ⊥ (T (ix3 0 h i))) := by
  pointwise [expArr]
  rw [Cert.Math.ofBits_neg_inf]

/-- The output at an index. -/
theorem out_at (E : FVec Ideal S1x12x2048x2048 .f32) (v : FVec Ideal S1x12x2048x64 .f32) (h : Fin 12) (i : Fin 2048) (d : Fin 64) :
    outArr E v (ix4 0 h i d)
      = ∑ j : Fin 2048, Ideal.div (E (ix4 0 h i j)) (∑ x : Fin 2048, E (ix4 0 h i x)) * v (ix4 0 h j d) := by
  pointwise [outArr]

variable (m : (ℓ : Loc nD τ sig) → Buf (Elt Ideal) ℓ)

/-- The masked scores over the launch arguments. -/
def scores (c : Dev nD) : FVec Ideal S1x12x2048x2048 .f32 :=
  scoreArr (maskArr (m ((c.tc : Thread nD τ).loc main_arg3)) (m ((c.tc : Thread nD τ).loc main_arg4))
    (m ((c.tc : Thread nD τ).loc main_arg5))) (m ((c.tc : Thread nD τ).loc main_arg0)) (m ((c.tc : Thread nD τ).loc main_arg1))

/-- The reference's result is the steps composed. -/
theorem result_steps (c : Dev nD) : res_main_v46 (F := Ideal) m c
    = outArr (expArr (scores m c) (topArr (scores m c))) (m ((c.tc : Thread nD τ).loc main_arg2)) := rfl

/-- The reference's result at an index: a softmax row of the masked scores against the values. -/
theorem result_at (c : Dev nD) (h : Fin 12) (i : Fin 2048) (d : Fin 64) :
    (res_main_v46 (F := Ideal) m c : FVec Ideal S1x12x2048x64 .f32) (ix4 0 h i d)
      = Cert.Math.softRow ⊥ (Cert.Math.refScore ((1 / 8 : ℝ) : EReal) ⊥ ((25 / 4 : ℝ) : EReal)
          (fun e => (m ((c.tc : Thread nD τ).loc main_arg0) : FVec Ideal S1x12x2048x64 .f32) (ix4 0 h i e))
          (fun j e => (m ((c.tc : Thread nD τ).loc main_arg1) : FVec Ideal S1x12x2048x64 .f32) (ix4 0 h j e))
          (fun j x => (m ((c.tc : Thread nD τ).loc main_arg3) : FVec Ideal S2048x2 .f32) (ix2 j x))
          (fun j => (m ((c.tc : Thread nD τ).loc main_arg4) : IVec S2048 32) (ix1 j))
          (fun j => (m ((c.tc : Thread nD τ).loc main_arg5) : IVec S2048 1) (ix1 j)) i)
        (fun j => (m ((c.tc : Thread nD τ).loc main_arg2) : FVec Ideal S1x12x2048x64 .f32) (ix4 0 h j d)) := by
  rw [result_steps]
  refine (out_at _ _ h i d).trans ?_
  simp only [exp_at, top_at, scores, score_at, mask_at]
  rfl

end Cert.ReferenceIdeal.Value

end
-- ==== Proof.Pre.lean ====
/- What the precondition says of the arguments at the ideal values: spans in order and from 0 to 3, coordinates from 0 to 1,
   queries and keys finite. -/
module

public import proofs.«01_k».proof.Proof.Gen.Pre_drawn_inputs
public import Idealize.ShloMosaic.Lib.ReduceAll
public import Idealize.ShloMosaic.Lib.Affine
public import Idealize.ShloMosaic.Lib.IdealHost
public import proofs.«01_k».proof.Proof.Rows

@[expose] public section

set_option maxRecDepth 16384

noncomputable section

open Idealize.ShloMosaic

namespace Cert.Pre_drawn_inputs

open Cert.Pre_drawn_inputs.Gen

/-- A shape of rank zero has one index. -/
theorem one_index (i j : S_.Idx) : i = j := funext fun a => a.elim0

/-- The same as an instance. -/
instance : Subsingleton S_.Idx := ⟨one_index⟩

/-- A row in which no position exceeds the next is in order at every pair. -/
theorem sorted_of_steps (f : Fin 2048 → ℤ) (h : ∀ (n : ℕ) (hn : n + 1 < 2048), f ⟨n, by omega⟩ ≤ f ⟨n + 1, hn⟩)
    (i j : Fin 2048) (hij : i ≤ j) : f i ≤ f j := by
  obtain ⟨i, hi⟩ := i
  obtain ⟨j, hj⟩ := j
  have hij : i ≤ j := hij
  induction j, hij using Nat.le_induction with
  | base => exact le_refl _
  | succ n hn ih => exact (ih (by omega) hn).trans (h n hj)

/-- A value whose magnitude is below infinity is a real number. -/
theorem real_of_abs (x : EReal) (h : Ideal.cmp .olt (max x (-x)) ⊤ = 1#1) : ∃ r : ℝ, x = (r : EReal) := by
  have hx : max x (-x) < ⊤ := by
    by_contra hn
    rw [show Ideal.cmp .olt (max x (-x)) ⊤ = BitVec.ofBool (decide (max x (-x) < ⊤)) from rfl, decide_eq_false hn] at h
    exact absurd h (by decide)
  refine Cert.Math.real_of_finite _ (fun hb => ?_) fun ht => ?_
  · subst hb; simp at hx
  · subst ht; simp at hx

variable (q k v : FVec Ideal S1x12x2048x64 .f32) (co : FVec Ideal S2048x2 .f32) (sp : IVec S2048 32) (ca : IVec S2048 1)

/-- The precondition, read: each of its seven conditions at every index. -/
theorem read (h : fn (F := Ideal) q k v co sp ca = fun _ => 1#1) :
    (∀ i j : Fin 2048, i ≤ j → (sp (ix1 i)).toInt ≤ (sp (ix1 j)).toInt)
    ∧ (∀ i : Fin 2048, 0 ≤ (sp (ix1 i)).toInt) ∧ (∀ i : Fin 2048, (sp (ix1 i)).toInt ≤ 3)
    ∧ (∀ (i : Fin 2048) (x : Fin 2), 0 ≤ co (ix2 i x)) ∧ (∀ (i : Fin 2048) (x : Fin 2), co (ix2 i x) ≤ 1)
    ∧ (∀ i, ∃ r : ℝ, q i = (r : EReal)) ∧ (∀ i, ∃ r : ℝ, k i = (r : EReal)) := by
  have h0 := congrFun h ix0
  dsimp only [fn, fn_part1, andi_apply] at h0
  simp only [IntOp.andi_eq_one] at h0
  obtain ⟨⟨⟨⟨⟨⟨a1, a2⟩, a3⟩, a4⟩, a5⟩, a6⟩, a7⟩ := h0
  have b1 := Host.reduce_andi_all _ _ _ _ _ a1
  have b2 := Host.reduce_andi_all _ _ _ _ _ a2
  have b3 := Host.reduce_andi_all _ _ _ _ _ a3
  have b4 := Host.reduce_andi_all _ _ _ _ _ a4
  have b5 := Host.reduce_andi_all _ _ _ _ _ a5
  have b6 := Host.reduce_andi_all _ _ _ _ _ a6
  have b7 := Host.reduce_andi_all _ _ _ _ _ a7
  clear a1 a2 a3 a4 a5 a6 a7
  have c1 : ∀ (n : ℕ) (hn : n + 1 < 2048), IntOp.cmpi .sle (sp (ix1 ⟨n, by omega⟩)) (sp (ix1 ⟨n + 1, hn⟩)) = 1#1 := by
    intro n hn
    have e0 : extractStridedSlice S2047 ![0] sp slices_S2048_S2047_0 (ix1 ⟨n, by omega⟩) = sp (ix1 ⟨n, by omega⟩) := by
      refine congrArg sp (funext fun a => ?_)
      match a with
      | ⟨0, _⟩ => exact Fin.ext (by show 0 + n = n; omega)
    have e1 : extractStridedSlice S2047 ![1] sp slices_S2048_S2047_1 (ix1 ⟨n, by omega⟩) = sp (ix1 ⟨n + 1, hn⟩) := by
      refine congrArg sp (funext fun a => ?_)
      match a with
      | ⟨0, _⟩ => exact Fin.ext (by show 1 + n = n + 1; omega)
    rw [← e0, ← e1]
    exact b1 (ix1 ⟨n, by omega⟩)
  have c2 : ∀ i, IntOp.cmpi .sge (sp i) 0#32 = 1#1 := b2
  have c3 : ∀ i, IntOp.cmpi .sle (sp i) 3#32 = 1#1 := b3
  have c4 : ∀ i, BitVec.ofBool (decide (Ideal.ofBits .f32 0x00000000#32 ≤ co i)) = 1#1 := b4
  have c5 : ∀ i, BitVec.ofBool (decide (co i ≤ Ideal.ofBits .f32 0x3F800000#32)) = 1#1 := b5
  have c6 : ∀ i, Ideal.cmp .olt (max (q i) (-q i)) (Ideal.ofBits .f32 0x7F800000#32) = 1#1 := b6
  have c7 : ∀ i, Ideal.cmp .olt (max (k i) (-k i)) (Ideal.ofBits .f32 0x7F800000#32) = 1#1 := b7
  have bit : ∀ (p : Prop) [Decidable p], BitVec.ofBool (decide p) = 1#1 → p := by
    intro p _ hp
    by_contra hn
    rw [decide_eq_false hn] at hp
    exact absurd hp (by decide)
  refine ⟨?_, fun i => ?_, fun i => ?_, fun i x => ?_, fun i x => ?_, fun i => ?_, fun i => ?_⟩
  · exact sorted_of_steps (fun i => (sp (ix1 i)).toInt) fun n hn => IntOp.cmpi_sle.1 (c1 n hn)
  · exact IntOp.cmpi_sge.1 (c2 _)
  · exact IntOp.cmpi_sle.1 (c3 _)
  · have := bit _ (c4 (ix2 i x))
    rwa [Ideal.ofBits_zero] at this
  · have := bit _ (c5 (ix2 i x))
    rwa [Ideal.ofBits_one_f32] at this
  · exact real_of_abs _ (by rw [← Cert.Math.ofBits_inf]; exact c6 i)
  · exact real_of_abs _ (by rw [← Cert.Math.ofBits_inf]; exact c7 i)

end Cert.Pre_drawn_inputs

end
-- ==== Proof.Equation.lean ====
/- The equation of the two results: under the precondition the kernel's result array is the reference's. -/
module

public import proofs.«01_k».proof.Defs
public import proofs.«01_k».proof.Proof.KernelValue
public import proofs.«01_k».proof.Proof.RefValue
public import proofs.«01_k».proof.Proof.Pre

@[expose] public section

set_option maxRecDepth 16384

noncomputable section

open Idealize.ShloMosaic Idealize.SL.Sem

namespace Cert.Equation

/-- The named scale is what it names. -/
theorem scale_eq : Named.named (F := Ideal) Cert.KernelIdeal.κ "scale2" (φ := .f32) 0x3E38AA3B#32
    = (((Real.log 2)⁻¹ * (Real.sqrt 64)⁻¹ : ℝ) : EReal) := rfl

/-- The named mask is what it names. -/
theorem mask_eq : Named.named (F := Ideal) Cert.KernelIdeal.κ "mask" (φ := .f32) 0xF149F2CA#32 = (⊥ : EReal) := rfl

/-- Over the same arguments, in the precondition, the reference's result and the kernel's are one array. -/
theorem results_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_drawn_inputs m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) :
    Cert.ReferenceIdeal.Value.res_main_v46 (F := Ideal) m' c = Cert.KernelIdeal.Value.result m c := by
  obtain ⟨hs, hs0, hs3, hc0, hc1, hq, hk⟩ := Cert.Pre_drawn_inputs.read _ _ _ _ _ _ (hpre c)
  funext y
  idx_vars y
  obtain rfl : y0 = 0 := Subsingleton.elim _ _
  refine (Cert.ReferenceIdeal.Value.result_at m' c y1 y2 y3).trans ?_
  rw [h0, h1, h2, h3, h4, h5]
  refine (Cert.Math.ker_eq_ref _ _ _ _ _ _ _ (fun e => hq _) (fun j e => hk _) hc0 hc1 hs hs0 hs3).symm.trans ?_
  rfl

end Cert.Equation

end
-- ==== Proof.lean ====
/- The claims of the certificate, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn_inputs
public import proofs.«01_k».proof.Proof.Gen.ReferenceIdeal.Run
public import proofs.«01_k».proof.Proof.Equation
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The kernel runs and leaves its arguments and counters as they were. -/
theorem frame_p : Cert.quiescent_Kernel := fun m ρ _ => Cert.Kernel.Gen.frame m ρ
/-- The idealized kernel does too. -/
theorem frame_pi : Cert.quiescent_KernelIdeal := fun m ρ _ => Cert.KernelIdeal.Gen.frame m ρ
/-- The idealized kernel does so under the precondition. -/
theorem frame_pi_pre : Cert.quiescent_KernelIdeal_pre_drawn_inputs := fun m ρ _ => Cert.KernelIdeal.Gen.frame m ρ
/-- The idealized reference runs and leaves its arguments and counters as they were. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- The idealized reference does so under the precondition. -/
theorem frame_ri_pre : Cert.quiescent_ReferenceIdeal_pre_drawn_inputs := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel is the kernel with its two named constants read as what they name. -/
theorem preserves : Cert.preserves_Kernel_KernelIdeal :=
  ⟨IdealRules.named_const.statement Cert.KernelIdeal.κ "mask" .f32 0xF149F2CA#32 ⊥ rfl,
    IdealRules.named_const.statement Cert.KernelIdeal.κ "scale2" .f32 0x3E38AA3B#32
      (((Real.log 2)⁻¹ * (Real.sqrt 64)⁻¹ : ℝ) : EReal) rfl⟩

/-- Over arguments the precondition admits, the idealized kernel and the idealized reference end with the same result. -/
theorem algebraic : Cert.algebraic_KernelIdeal_ReferenceIdeal_pre_drawn_inputs := fun m g m' g' hpre hagree =>
  ⟨fun c => Cert.KernelIdeal.Value.result m c, Cert.KernelIdeal.Value.run m g,
    (θ_run Cert.ReferenceIdeal.defs _ _).mono
      (fun r h c => ⟨(h c).1.trans (Cert.Equation.results_eq m m' hpre c (hagree c).1 (hagree c).2.1 (hagree c).2.2.1
        (hagree c).2.2.2.1 (hagree c).2.2.2.2.1 (hagree c).2.2.2.2.2), (h c).2⟩)
      (Cert.ReferenceIdeal.Value.run (F := Ideal) m' g')⟩

/-- Every claim of the certificate. -/
theorem claim : Cert.Claim :=
  ⟨Cert.Kernel.Gen.facts, Cert.KernelIdeal.Gen.facts, Cert.ReferenceIdeal.Gen.facts, Cert.Pre_drawn_inputs.Gen.facts,
    frame_p, frame_pi, frame_pi_pre, frame_ri, frame_ri_pre, preserves, algebraic⟩

end Cert.Proof

end
